-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_maxima_finite [hPre_maxima_finite : Cert.Pre_maxima_finite.Facts] (m : (ℓ : Loc Cert.KernelIdeal.nD Cert.KernelIdeal.τ Cert.KernelIdeal.sig) → Buf (Elt Ideal) ℓ) : Prop :=
  ∀ c : Dev Cert.KernelIdeal.nD,
    (Cert.Pre_maxima_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_maxima_finite [hPre_maxima_finite : Cert.Pre_maxima_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_maxima_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_maxima_finite [hKernelIdeal : Cert.KernelIdeal.Facts] [hPre_maxima_finite : Cert.Pre_maxima_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_maxima_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_maxima_finite [hReferenceIdeal : Cert.ReferenceIdeal.Facts] [hPre_maxima_finite : Cert.Pre_maxima_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_maxima_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_maxima_finite [hKernelIdeal : Cert.KernelIdeal.Facts] [hReferenceIdeal : Cert.ReferenceIdeal.Facts] [hPre_maxima_finite : Cert.Pre_maxima_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_maxima_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_maxima_finite : Cert.Pre_maxima_finite.Facts),
    quiescent_Kernel (hKernel := hKernel)
    ∧ quiescent_KernelIdeal (hKernelIdeal := hKernelIdeal)
    ∧ quiescent_KernelIdeal_pre_maxima_finite (hKernelIdeal := hKernelIdeal) (hPre_maxima_finite := hPre_maxima_finite)
    ∧ quiescent_ReferenceIdeal (hReferenceIdeal := hReferenceIdeal)
    ∧ quiescent_ReferenceIdeal_pre_maxima_finite (hReferenceIdeal := hReferenceIdeal) (hPre_maxima_finite := hPre_maxima_finite)
    ∧ preserves_Kernel_KernelIdeal
    ∧ algebraic_KernelIdeal_ReferenceIdeal_pre_maxima_finite (hKernelIdeal := hKernelIdeal) (hReferenceIdeal := hReferenceIdeal) (hPre_maxima_finite := hPre_maxima_finite)
-- ==== Pre_maxima_finite.lean ====
abbrev S4x4096x64 : Shape := ⟨3, ![4, 4096, 64]⟩
abbrev S4x4096x64x64 : Shape := ⟨4, ![4, 4096, 64, 64]⟩
abbrev S_ : Shape := ⟨0, ![]⟩

class Facts : Prop where
  reducesTo_S4x4096x64x64_S4x4096x64_d2 : S4x4096x64x64.ReducesTo [2] S4x4096x64
  h_S_ : 0 < S_.numel
  bcast_S_S4x4096x64 : S_.BroadcastsInDim S4x4096x64 (![] : Fin 0 → Fin S4x4096x64.rank)

variable [Facts]

def fn {F : FTy → Type} [FloatOps F] (main_arg0 : FVec F S4x4096x64 .f32) (main_arg1 : FVec F S4x4096x64x64 .f32) : IVec S4x4096x64 1 :=
  let main_cst : FVec F S_ .f32 := constant S_ .f32 0xFF800000#32
  let main_v0 : FVec F S4x4096x64 .f32 := (fun x v => Host.reduce FloatOps.maximumf x v reducesTo_S4x4096x64x64_S4x4096x64_d2 h_S_) main_arg1 main_cst
  let main_v1 : FVec F S4x4096x64 .f32 := Host.absf main_v0
  let main_cst_0 : FVec F S_ .f32 := constant S_ .f32 0x7F800000#32
  let main_v2 : FVec F S4x4096x64 .f32 := broadcastInDim S4x4096x64 ![] bcast_S_S4x4096x64 main_cst_0
  let main_v3 : IVec S4x4096x64 1 := cmpf .olt main_v1 main_v2
  main_v3
-- ==== Kernel.lean ====
abbrev S4x4096x64 : Shape := ⟨3, ![4, 4096, 64]⟩
abbrev S4x4096x64x64 : Shape := ⟨4, ![4, 4096, 64, 64]⟩
abbrev S4x64x4096 : Shape := ⟨3, ![4, 64, 4096]⟩
abbrev S4x64x64x4096 : Shape := ⟨4, ![4, 64, 64, 4096]⟩
abbrev S1x16x4096 : Shape := ⟨3, ![1, 16, 4096]⟩
abbrev S1x16x64x4096 : Shape := ⟨4, ![1, 16, 64, 4096]⟩
abbrev S1x64x4096 : Shape := ⟨3, ![1, 64, 4096]⟩
abbrev S64x4096 : Shape := ⟨2, ![64, 4096]⟩
abbrev S16x64x4096 : Shape := ⟨3, ![16, 64, 4096]⟩
abbrev S16x4096 : Shape := ⟨2, ![16, 4096]⟩
abbrev S1x4096 : Shape := ⟨2, ![1, 4096]⟩

abbrev nBuf : Space → Nat
  | .hbm => 6
  | .vmem => 7
  | .smem => 0
  | _ => 0

abbrev bufTy : (tb : Table) → Fin (tcTables nBuf tb) → BufTy
  | .hbm, ⟨0, _⟩ => ⟨S4x4096x64, .f32⟩
  | .hbm, ⟨1, _⟩ => ⟨S4x4096x64x64, .f32⟩
  | .hbm, ⟨2, _⟩ => ⟨S4x64x4096, .f32⟩
  | .hbm, ⟨3, _⟩ => ⟨S4x64x64x4096, .f32⟩
  | .hbm, ⟨4, _⟩ => ⟨S4x64x4096, .f32⟩
  | .hbm, ⟨5, _⟩ => ⟨S4x4096x64, .f32⟩
  | .local _ .vmem, ⟨0, _⟩ => ⟨S1x16x4096, .f32⟩
  | .local _ .vmem, ⟨1, _⟩ => ⟨S1x16x4096, .f32⟩
  | .local _ .vmem, ⟨2, _⟩ => ⟨S1x16x64x4096, .f32⟩
  | .local _ .vmem, ⟨3, _⟩ => ⟨S1x16x64x4096, .f32⟩
  | .local _ .vmem, ⟨4, _⟩ => ⟨S1x64x4096, .f32⟩
  | .local _ .vmem, ⟨5, _⟩ => ⟨S1x64x4096, .f32⟩
  | .local _ .vmem, ⟨6, _⟩ => ⟨S64x4096, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceIdeal.lean ====
abbrev S4x4096x64 : Shape := ⟨3, ![4, 4096, 64]⟩
abbrev S4x4096x64x64 : Shape := ⟨4, ![4, 4096, 64, 64]⟩
abbrev S_ : Shape := ⟨0, ![]⟩
abbrev S4x4096x1x64 : Shape := ⟨4, ![4, 4096, 1, 64]⟩

abbrev nBuf : Space → Nat
  | .hbm => 20
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S4x4096x64x64, .f32⟩
  | .hbm, ⟨2, _⟩ => ⟨S_, .f32⟩
  | .hbm, ⟨3, _⟩ => ⟨S4x4096x64x64, .f32⟩
  | .hbm, ⟨4, _⟩ => ⟨S4x4096x64x64, .f32⟩
  | .hbm, ⟨5, _⟩ => ⟨S_, .f32⟩
  | .hbm, ⟨6, _⟩ => ⟨S4x4096x64, .f32⟩
  | .hbm, ⟨7, _⟩ => ⟨S_, .f32⟩
  | .hbm, ⟨8, _⟩ => ⟨S4x4096x64, .f32⟩
  | .hbm, ⟨9, _⟩ => ⟨S4x4096x64, .f32⟩
  | .hbm, ⟨10, _⟩ => ⟨S4x4096x1x64, .f32⟩
  | .hbm, ⟨11, _⟩ => ⟨S4x4096x64x64, .f32⟩
  | .hbm, ⟨12, _⟩ => ⟨S4x4096x64x64, .f32⟩
  | .hbm, ⟨13, _⟩ => ⟨S4x4096x64x64, .f32⟩
  | .hbm, ⟨14, _⟩ => ⟨S_, .f32⟩
  | .hbm, ⟨15, _⟩ => ⟨S4x4096x64, .f32⟩
  | .hbm, ⟨16, _⟩ => ⟨S4x4096x1x64, .f32⟩
  | .hbm, ⟨17, _⟩ => ⟨S4x4096x64x64, .f32⟩
  | .hbm, ⟨18, _⟩ => ⟨S4x4096x64x64, .f32⟩
  | .hbm, ⟨19, _⟩ => ⟨S4x4096x64, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Block.lean ====
/-
  What one grid point of the kernel leaves in its two accumulators, over the extended reals. A point sees 16 of the 64
  positions of the normalised axis: `x1` holds their logits, at (0, position, column, lane), and `x0` their inputs, at
  (0, position, lane). The scratch gathers the sum of the exponentials, the output block the sum of the exponentials
  times the inputs; the first of the four points of a batch starts both from zero, the last divides one by the other.
-/
module

public import proofs.«01_k».proof.Proof.Gen.KernelIdeal.Frame
public import Idealize.ShloMosaic.Lib.Pipeline.Value
public import Idealize.ShloMosaic.Lib.Pointwise

@[expose] public section

noncomputable section

namespace Cert.KernelIdeal.Block

open Cert.KernelIdeal Cert.KernelIdeal.Gen Idealize.ShloMosaic Idealize.ShloMosaic.TcCoe Idealize.SL.Sem

/-- The zero offset of rank two, as a constant function. -/
theorem off2 : (![0, 0] : Fin 2 → Nat) = fun _ => 0 := funext fun a => by fin_cases a <;> rfl
/-- The same at rank three. -/
theorem off3 : (![0, 0, 0] : Fin 3 → Nat) = fun _ => 0 := funext fun a => by fin_cases a <;> rfl
/-- The same at rank four. -/
theorem off4 : (![0, 0, 0, 0] : Fin 4 → Nat) = fun _ => 0 := funext fun a => by fin_cases a <;> rfl

/-! ## The body's two unrolled sums -/

/-- The sixteen additions into the scratch: `xs` plus the sum of the exponentials of the point's logits. -/
def expSum (x1 : Vec Ideal S1x16x64x4096 .f32) (xs : Vec Ideal S64x4096 .f32) : Vec Ideal S64x4096 .f32 :=
  k0_pay29 (k0_pay5 x1) (k0_pay20 (k0_pay5 x1) (k0_pay12 x1 xs)) (k0_pay22 (k0_pay5 x1))

/-- The sixteen additions into the output block: `xo` plus the sum of the exponentials times the point's inputs. -/
def weightedSum (x0 : Vec Ideal S1x16x4096 .f32) (x1 : Vec Ideal S1x16x64x4096 .f32) (xo : Vec Ideal S1x64x4096 .f32) :
    Vec Ideal S1x64x4096 .f32 :=
  k0_pay1 (k0_pay28 (k0_pay5 x1) (k0_pay6 x0)
    (k0_pay21 (k0_pay5 x1) (k0_pay6 x0) (k0_pay10 x1 x0 xo) (k0_pay11 x1) (k0_pay13 x0)) (k0_pay22 (k0_pay5 x1)))

/-- Sixteen terms added one after the other to `a` are `a` plus their sum. -/
theorem add_sum_sixteen {M : Type*} [AddCommMonoid M] (a : M) (f : Fin 16 → M) :
    a + f 0 + f 1 + f 2 + f 3 + f 4 + f 5 + f 6 + f 7 + f 8 + f 9 + f 10 + f 11 + f 12 + f 13 + f 14 + f 15
      = a + ∑ q : Fin 16, f q := by
  simp only [Fin.sum_univ_castSucc, Fin.sum_univ_zero, zero_add, ← add_assoc]
  rfl

/-- The scratch's sum at column `j` and lane `s`. -/
theorem expSum_apply (x1 : Vec Ideal S1x16x64x4096 .f32) (xs : Vec Ideal S64x4096 .f32) (j : Fin 64) (s : Fin 4096) :
    expSum x1 xs (ix2 j s) = xs (ix2 j s) + ∑ q : Fin 16, Ideal.exp (x1 (ix4 0 q j s)) := by
  unfold expSum
  unfold_payloads
  pointwise
  exact add_sum_sixteen _ fun q => Ideal.exp (x1 (ix4 0 q j s))

/-- The output block's sum at column `j` and lane `s`. -/
theorem weightedSum_apply (x0 : Vec Ideal S1x16x4096 .f32) (x1 : Vec Ideal S1x16x64x4096 .f32)
    (xo : Vec Ideal S1x64x4096 .f32) (j : Fin 64) (s : Fin 4096) :
    weightedSum x0 x1 xo (ix3 0 j s)
      = xo (ix3 0 j s) + ∑ q : Fin 16, Ideal.exp (x1 (ix4 0 q j s)) * x0 (ix3 0 q s) := by
  unfold weightedSum
  unfold_payloads
  pointwise
  exact add_sum_sixteen _ fun q => Ideal.exp (x1 (ix4 0 q j s)) * x0 (ix3 0 q s)

/-- The output block starts from zero. -/
theorem zeroBlock_apply (j : Fin 64) (s : Fin 4096) : k0_pay3 (F := Ideal) (ix3 0 j s) = 0 := by
  unfold_payloads
  pointwise

/-- The scratch starts from zero. -/
theorem zeroScratch_apply (j : Fin 64) (s : Fin 4096) : k0_pay4 (F := Ideal) (ix2 j s) = 0 := by
  unfold_payloads
  pointwise

/-- The closing division at column `j` and lane `s`. -/
theorem quotient_apply (xo : Vec Ideal S1x64x4096 .f32) (xs : Vec Ideal S64x4096 .f32) (j : Fin 64) (s : Fin 4096) :
    k0_pay2 xo xs (ix3 0 j s) = Ideal.div (xo (ix3 0 j s)) (xs (ix2 j s)) := by
  unfold_payloads
  pointwise

/-! ## What each kind of point leaves -/

variable (c : Dev nD) (i : grid0.Coords)
  (a2 : Memref sig .tc .vmem S1x16x4096 .f32) (h2 : a2.IsWhole)
  (a3 : Memref sig .tc .vmem S1x16x64x4096 .f32) (h3 : a3.IsWhole)
  (a4 : Memref sig .tc .vmem S1x64x4096 .f32) (h4 : a4.IsWhole)
  (a5 : Memref sig .tc .vmem S64x4096 .f32) (h5 : a5.IsWhole)
  (x0 : Vec Ideal S1x16x4096 .f32) (x1 : Vec Ideal S1x16x64x4096 .f32)
  (xo : Vec Ideal S1x64x4096 .f32) (xs : Vec Ideal S64x4096 .f32)

/-- A batch's first point leaves in the scratch the sum over its positions, from zero. -/
theorem scratch_A (hc0 : cond0_0 i) (hc1 : ¬cond0_1 i) :
    sout0_A_0 c i a2 h2 a3 h3 a4 h4 a5 h5 hc0 hc1 x0 x1 = expSum x1 (k0_pay4 (F := Ideal)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S64x4096) off2, View.readCov_unit_zero (S := S64x4096) _ off2]
  simp only [View.readAt_eq_ld, h2.read_unread, h3.read_unread, h4.read_unread, h5.read_unread,
    View.ld_unit_zero (S := S64x4096) off2, View.ld_unit_zero (S := S1x16x64x4096) off4,
    View.ld_unit_zero (S := S1x64x4096) off3, View.ld_unit_zero (S := S1x16x4096) off3]
  rfl

/-- A batch's first point leaves in the output block the weighted sum over its positions, from zero. -/
theorem out_A (hc0 : cond0_0 i) (hc1 : ¬cond0_1 i) :
    out0_A_2 c i a2 h2 a3 h3 a4 h4 a5 h5 hc0 hc1 x0 x1 = weightedSum x0 x1 (k0_pay3 (F := Ideal)) := by
  unfold out0_A_2
  rw [View.read_writes_eq_canon _ _ _ (cover0_A_2 c i a2 h2 a3 h3 a4 h4 a5 h5 hc0 hc1 x0 x1)]
  unfold kernelRun0_A
  dsimp only
  sl_unfold_words
  rw [View.canon_cons_unit_zero (S := S1x64x4096) off3, View.readCov_unit_zero (S := S1x64x4096) _ off3]
  simp only [View.readAt_eq_ld, h2.read_unread, h3.read_unread, h4.read_unread, h5.read_unread,
    View.ld_unit_zero (S := S64x4096) off2, View.ld_unit_zero (S := S1x16x64x4096) off4,
    View.ld_unit_zero (S := S1x64x4096) off3, View.ld_unit_zero (S := S1x16x4096) off3]
  rfl

/-- A middle point adds the sum over its positions to the scratch. -/
theorem scratch_B (hc0 : ¬cond0_0 i) (hc1 : ¬cond0_1 i) :
    sout0_B_0 c i a2 h2 a3 h3 a4 h4 a5 h5 hc0 hc1 x0 x1 xo xs = expSum x1 xs := by
  unfold sout0_B_0
  rw [View.read_writes_eq_canon _ _ _ (scover0_B_0 c i a2 h2 a3 h3 a4 h4 a5 h5 hc0 hc1 x0 x1 xo xs)]
  unfold kernelRun0_B
  dsimp only
  sl_unfold_words
  rw [View.canon_unit_zero off2]
  simp only [View.readAt_eq_ld, h2.read_unread, h3.read_unread, h4.read_unread, h5.read_unread,
    View.ld_unit_zero (S := S64x4096) off2, View.ld_unit_zero (S := S1x16x64x4096) off4,
    View.ld_unit_zero (S := S1x64x4096) off3, View.ld_unit_zero (S := S1x16x4096) off3]
  rfl

/-- A middle point adds the weighted sum over its positions to the output block. -/
theorem out_B (hc0 : ¬cond0_0 i) (hc1 : ¬cond0_1 i) :
    out0_B_2 c i a2 h2 a3 h3 a4 h4 a5 h5 hc0 hc1 x0 x1 xo xs = weightedSum x0 x1 xo := by
  unfold out0_B_2
  rw [View.read_writes_eq_canon _ _ _ (cover0_B_2 c i a2 h2 a3 h3 a4 h4 a5 h5 hc0 hc1 x0 x1 xo xs)]
  unfold kernelRun0_B
  dsimp only
  sl_unfold_words
  rw [View.canon_unit_zero off3]
  simp only [View.readAt_eq_ld, h2.read_unread, h3.read_unread, h4.read_unread, h5.read_unread,
    View.ld_unit_zero (S := S64x4096) off2, View.ld_unit_zero (S := S1x16x64x4096) off4,
    View.ld_unit_zero (S := S1x64x4096) off3, View.ld_unit_zero (S := S1x16x4096) off3]
  rfl

/-- A batch's last point adds its weighted sum to the output block, its sum to the scratch, and leaves in the output block
    their quotient. -/
theorem out_C (hc0 : ¬cond0_0 i) (hc1 : cond0_1 i) :
    out0_C_2 c i a2 h2 a3 h3 a4 h4 a5 h5 hc0 hc1 x0 x1 xo xs = k0_pay2 (weightedSum x0 x1 xo) (expSum x1 xs) := by
  unfold out0_C_2
  rw [View.read_writes_eq_canon _ _ _ (cover0_C_2 c i a2 h2 a3 h3 a4 h4 a5 h5 hc0 hc1 x0 x1 xo xs)]
  unfold kernelRun0_C
  dsimp only
  sl_unfold_words
  rw [View.canon_cons_unit_zero (S := S1x64x4096) off3, View.readCov_unit_zero (S := S64x4096) _ off2,
    View.readCov_unit_zero (S := S1x64x4096) _ off3]
  simp only [View.readAt_eq_ld, h2.read_unread, h3.read_unread, h4.read_unread, h5.read_unread,
    View.ld_unit_zero (S := S64x4096) off2, View.ld_unit_zero (S := S1x16x64x4096) off4,
    View.ld_unit_zero (S := S1x64x4096) off3, View.ld_unit_zero (S := S1x16x4096) off3]
  rfl

end Cert.KernelIdeal.Block

end
-- ==== Proof.Array.lean ====
/-
  What the kernel's result array holds. A batch `b` takes the four grid points `4 b`, …, `4 b + 3`; point `4 b + g` sees
  positions `16 g`, …, `16 g + 15` of the normalised axis. The last one writes the batch's block back, so the region's
  array holds, at (b, j, s), the sum over all 64 positions of the exponential of the logit times the input, over the sum
  of the exponentials; the program's result is that array with its last two axes exchanged.
-/
module

public import proofs.«01_k».proof.Proof.Block
public import Idealize.ShloMosaic.Lib.StableHlo.Run

@[expose] public section

noncomputable section

namespace Cert.KernelIdeal.Array

open Cert.KernelIdeal Cert.KernelIdeal.Gen Cert.KernelIdeal.Block Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The inputs, as launched. -/
abbrev X : Vec Ideal S4x4096x64 .f32 := m ((c.tc : Thread nD τ).loc main_arg0)
/-- The logits, as launched. -/
abbrev W : Vec Ideal S4x4096x64x64 .f32 := m ((c.tc : Thread nD τ).loc main_arg1)

/-! ## The blocks the points see -/

/-- Position `16 g + q` of the normalised axis. -/
abbrev pos (g : Fin 4) (q : Fin 16) : Fin 64 := ⟨16 * g.val + q.val, by omega⟩

/-- Grid point `4 b + g`. -/
abbrev pt (b g : Fin 4) : Fin cfg0.N := ⟨4 * b.val + g.val, by rw [show cfg0.N = 16 from N_0]; omega⟩

/-- The region finds the inputs with their last two axes exchanged. -/
theorem inputs_apply (b : Fin 4) (k : Fin 64) (s : Fin 4096) :
    (V m c main_call0_v0 : Vec Ideal S4x64x4096 .f32) (ix3 b k s) = X m c (ix3 b s k) := by
  have e : (V m c main_call0_v0 : Vec Ideal S4x64x4096 .f32)
      = transpose S4x64x4096 [0, 2, 1] (X m c) transposes_S4x4096x64_S4x64x4096_0_2_1 := by
    show StableHlo.after hostOps0 (fun r => m (c, r)) (Proc.devRef .tc main_call0_v0) = _
    unfold hostOps0
    after_results
    rfl
  rw [e]
  pointwise

/-- The region finds the logits with the row axis moved last. -/
theorem logits_apply (b : Fin 4) (k j : Fin 64) (s : Fin 4096) :
    (V m c main_call0_v1 : Vec Ideal S4x64x64x4096 .f32) (ix4 b k j s) = W m c (ix4 b s k j) := by
  have e : (V m c main_call0_v1 : Vec Ideal S4x64x64x4096 .f32)
      = transpose S4x64x64x4096 [0, 2, 3, 1] (W m c) transposes_S4x4096x64x64_S4x64x64x4096_0_2_3_1 := by
    show StableHlo.after hostOps0 (fun r => m (c, r)) (Proc.devRef .tc main_call0_v1) = _
    unfold hostOps0
    after_results
    rfl
  rw [e]
  pointwise

/-- The block indices of point `4 b + g`. -/
theorem index_facts : ∀ b g : Fin 4, win0_0.index (pt b g) = ![b.val, g.val, 0] ∧ win0_1.index (pt b g) = ![b.val, g.val, 0, 0]
    ∧ win0_2.index (pt b g) = ![b.val, 0, 0] := by
  decide +kernel

/-- The inputs point `4 b + g` sees. -/
theorem iblk0_apply (b g : Fin 4) (q : Fin 16) (s : Fin 4096) :
    (iblk m c 0 (pt b g) : Vec Ideal S1x16x4096 .f32) (ix3 0 q s) = X m c (ix3 b s (pos g q)) := by
  rw [← inputs_apply]
  unfold iblk
  rw [View.read_apply]
  refine congrArg (V m c main_call0_v0 : Vec Ideal S4x64x4096 .f32) (funext fun a => Fin.ext ?_)
  have h := (index_facts b g).1
  match a with
  | ⟨0, _⟩ => show win0_0.index (pt b g) 0 * 1 + 1 * 0 = b.val; rw [h]; simp
  | ⟨1, _⟩ => show win0_0.index (pt b g) 1 * 16 + 1 * q.val = 16 * g.val + q.val; rw [h]; simp; omega
  | ⟨2, _⟩ => show win0_0.index (pt b g) 2 * 4096 + 1 * s.val = s.val; rw [h]; simp

/-- The logits point `4 b + g` sees. -/
theorem iblk1_apply (b g : Fin 4) (q : Fin 16) (j : Fin 64) (s : Fin 4096) :
    (iblk m c 1 (pt b g) : Vec Ideal S1x16x64x4096 .f32) (ix4 0 q j s) = W m c (ix4 b s (pos g q) j) := by
  rw [← logits_apply]
  unfold iblk
  rw [View.read_apply]
  refine congrArg (V m c main_call0_v1 : Vec Ideal S4x64x64x4096 .f32) (funext fun a => Fin.ext ?_)
  have h := (index_facts b g).2.1
  match a with
  | ⟨0, _⟩ => show win0_1.index (pt b g) 0 * 1 + 1 * 0 = b.val; rw [h]; simp
  | ⟨1, _⟩ => show win0_1.index (pt b g) 1 * 16 + 1 * q.val = 16 * g.val + q.val; rw [h]; simp; omega
  | ⟨2, _⟩ => show win0_1.index (pt b g) 2 * 64 + 1 * j.val = j.val; rw [h]; simp
  | ⟨3, _⟩ => show win0_1.index (pt b g) 3 * 4096 + 1 * s.val = s.val; rw [h]; simp

/-! ## The four points of a batch -/

/-- The exponential of the logit of position `k`, for row `s` and column `j` of batch `b`. -/
abbrev e (b : Fin 4) (s : Fin 4096) (j : Fin 64) (k : Fin 64) : EReal := Ideal.exp (W m c (ix4 b s k j))

/-- That exponential times the position's input. -/
abbrev ex (b : Fin 4) (s : Fin 4096) (j : Fin 64) (k : Fin 64) : EReal := e m c b s j k * X m c (ix3 b s k)

/-- What point `4 b + g` adds to the scratch. -/
abbrev eSum (b : Fin 4) (s : Fin 4096) (j : Fin 64) (g : Fin 4) : EReal := ∑ q, e m c b s j (pos g q)

/-- What point `4 b + g` adds to the output block. -/
abbrev exSum (b : Fin 4) (s : Fin 4096) (j : Fin 64) (g : Fin 4) : EReal := ∑ q, ex m c b s j (pos g q)

/-- Point `4 b + g`'s sum into a scratch holding `xs`. -/
theorem expSum_pt (b g : Fin 4) (xs : Vec Ideal S64x4096 .f32) (j : Fin 64) (s : Fin 4096) :
    expSum (iblk m c 1 (pt b g)) xs (ix2 j s) = xs (ix2 j s) + eSum m c b s j g := by
  rw [expSum_apply]
  simp only [iblk1_apply]

/-- Point `4 b + g`'s sum into an output block holding `xo`. -/
theorem weightedSum_pt (b g : Fin 4) (xo : Vec Ideal S1x64x4096 .f32) (j : Fin 64) (s : Fin 4096) :
    weightedSum (iblk m c 0 (pt b g)) (iblk m c 1 (pt b g)) xo (ix3 0 j s) = xo (ix3 0 j s) + exSum m c b s j g := by
  rw [weightedSum_apply]
  simp only [iblk0_apply, iblk1_apply]

/-- After a batch's first point. -/
theorem first_point (b : Fin 4) (j : Fin 64) (s : Fin 4096) :
    (outsAt0 m c (pt b 0).val (pt b 0).isLt).1 (ix3 0 j s) = exSum m c b s j 0
    ∧ (outsAt0 m c (pt b 0).val (pt b 0).isLt).2 (ix2 j s) = eSum m c b s j 0 := by
  rw [outsAt0_A m c (pt b 0) (by simp) (by simp)]
  dsimp only
  rw [out_A, scratch_A, expSum_pt, weightedSum_pt, zeroBlock_apply, zeroScratch_apply, zero_add, zero_add]
  exact ⟨rfl, rfl⟩

/-- A middle point adds its two sums to what the point before left. -/
theorem middle_point (b g : Fin 4) (n : ℕ) (hn : n < cfg0.N) (hg : (pt b g).val = n + 1) (h0 : g ≠ 0) (h3 : g ≠ 3)
    (j : Fin 64) (s : Fin 4096) :
    (outsAt0 m c (pt b g).val (pt b g).isLt).1 (ix3 0 j s) = (outsAt0 m c n hn).1 (ix3 0 j s) + exSum m c b s j g
    ∧ (outsAt0 m c (pt b g).val (pt b g).isLt).2 (ix2 j s) = (outsAt0 m c n hn).2 (ix2 j s) + eSum m c b s j g := by
  have hp : (pt b g).val - 1 = n := by omega
  subst hp
  rw [outsAt0_B m c (pt b g) (by dsimp only; omega) (by dsimp only; omega)]
  dsimp only
  rw [out_B, scratch_B, expSum_pt, weightedSum_pt]
  exact ⟨rfl, rfl⟩

/-- A batch's last point adds its sums and divides. -/
theorem last_point (b : Fin 4) (j : Fin 64) (s : Fin 4096) :
    (outsAt0 m c (pt b 3).val (pt b 3).isLt).1 (ix3 0 j s)
      = Ideal.div ((outsAt0 m c (pt b 2).val (pt b 2).isLt).1 (ix3 0 j s) + exSum m c b s j 3)
          ((outsAt0 m c (pt b 2).val (pt b 2).isLt).2 (ix2 j s) + eSum m c b s j 3) := by
  rw [outsAt0_C m c (pt b 3) (by dsimp only; omega) (by dsimp only; omega)]
  dsimp only
  rw [out_C, quotient_apply, expSum_pt, weightedSum_pt]
  rfl

/-- A sum over the 64 positions, by the four points that see them. -/
theorem sum_positions (f : Fin 64 → EReal) : ∑ k, f k = ∑ g : Fin 4, ∑ q : Fin 16, f (pos g q) := by
  rw [← Fintype.sum_prod_type', ← (finProdFinEquiv (m := 4) (n := 16)).sum_comp]
  refine Finset.sum_congr rfl fun p _ => congrArg f (Fin.ext ?_)
  show p.2.val + 16 * p.1.val = 16 * p.1.val + p.2.val
  omega

/-- The quotient the kernel computes for row `s` and column `j` of batch `b`. -/
def quotient (b : Fin 4) (s : Fin 4096) (j : Fin 64) : EReal :=
  Ideal.div (∑ k, ex m c b s j k) (∑ k, e m c b s j k)

/-- After a batch's last point the output block holds the quotients. -/
theorem batch_end (b : Fin 4) (j : Fin 64) (s : Fin 4096) :
    (outsAt0 m c (pt b 3).val (pt b 3).isLt).1 (ix3 0 j s) = quotient m c b s j := by
  obtain ⟨o0, z0⟩ := first_point m c b j s
  obtain ⟨o1, z1⟩ := middle_point m c b 1 (pt b 0).val (pt b 0).isLt rfl (by decide) (by decide) j s
  obtain ⟨o2, z2⟩ := middle_point m c b 2 (pt b 1).val (pt b 1).isLt rfl (by decide) (by decide) j s
  rw [last_point, o2, z2, o1, z1, o0, z0]
  unfold quotient
  rw [sum_positions, sum_positions, Fin.sum_univ_four, Fin.sum_univ_four]

/-! ## The array -/

/-- What the region's array ends holding: the quotients, row axis last. -/
def G : Buf (Elt Ideal) ((c : Thread nD τ).loc main_call0_v2) := fun i => quotient m c (i 0) (i 2) (i 1)

/-- Each batch's last point writes its block of `G` back. -/
theorem flushed_eq (t : Fin cfg0.N) (hf : (cfg0.win 2).flush t = true) :
    (dats m 0 c).flushed 2 t = ((cfg0.win 2).blk t).view.read (Elt Ideal) (G m c) := by
  have hN : cfg0.N = 16 := N_0
  have ht := t.isLt
  have h3 : t.val % 4 = 3 := (flush0_2 t).mp hf
  obtain ⟨b, rfl⟩ : ∃ b : Fin 4, t = pt b 3 := ⟨⟨t.val / 4, by omega⟩, Fin.ext (by show t.val = 4 * (t.val / 4) + 3; omega)⟩
  show (cfg0.win 2).cut (grid0.coords (pt b 3)) ((dats m 0 c).after 2 (pt b 3)) = _
  rw [after0_2]
  funext y
  have hy : (y 0).val < 1 := (y 0).isLt
  have h := (index_facts b 3).2.2
  rw [View.read_apply]
  have hb : ((cfg0.win 2).blk (pt b 3)).view.emb y = ix3 b (y 1) (y 2) := funext fun a => Fin.ext (by
    match a with
    | ⟨0, _⟩ => show win0_2.index (pt b 3) 0 * 1 + 1 * (y 0).val = b.val; rw [h]; simp; omega
    | ⟨1, _⟩ => show win0_2.index (pt b 3) 1 * 64 + 1 * (y 1).val = (y 1).val; rw [h]; simp
    | ⟨2, _⟩ => show win0_2.index (pt b 3) 2 * 4096 + 1 * (y 2).val = (y 2).val; rw [h]; simp)
  have hx : (cfg0.win 2).xinj (grid0.coords (pt b 3)) y = ix3 0 (y 1) (y 2) := funext fun a => Fin.ext (by
    match a with
    | ⟨0, _⟩ => show (y 0).val = 0; omega
    | ⟨1, _⟩ => rfl
    | ⟨2, _⟩ => rfl)
  rw [hb]
  refine Eq.trans ?_ (batch_end m c b (y 1) (y 2))
  exact congrArg (outsAt0 m c (pt b 3).val (pt b 3).isLt).1 hx

/-- The four blocks cover the array, so it ends holding `G`. -/
theorem array_eq : (dats m 0 c).arrAt 2 cfg0.N = G m c :=
  (dats m 0 c).arrAt_eq_of_cover 2 (G m c) (flushed_eq m c) fun i =>
    ⟨pt (i 0) 3, (flush0_2 _).mpr (by show (4 * (i 0).val + 3) % 4 = 3; omega), by
      show i ∈ ((View.whole main_call0_v2).slice (win0_2.rect (pt (i 0) 3))).set
      rw [View.set_slice_whole, Rect.mem_set_unit]
      have h := (index_facts (i 0) 3).2.2
      have h1 : (i 1 : Nat) < 64 := (i 1).isLt
      have h2 : (i 2 : Nat) < 4096 := (i 2).isLt
      intro a
      match a with
      | ⟨0, _⟩ =>
        show win0_2.index (pt (i 0) 3) 0 * 1 ≤ (i 0).val ∧ (i 0).val < win0_2.index (pt (i 0) 3) 0 * 1 + 1
        rw [h]; simp
      | ⟨1, _⟩ =>
        show win0_2.index (pt (i 0) 3) 1 * 64 ≤ (i 1).val ∧ (i 1).val < win0_2.index (pt (i 0) 3) 1 * 64 + 64
        rw [h]; simpa using h1
      | ⟨2, _⟩ =>
        show win0_2.index (pt (i 0) 3) 2 * 4096 ≤ (i 2).val ∧ (i 2).val < win0_2.index (pt (i 0) 3) 2 * 4096 + 4096
        rw [h]; simpa using h2⟩

/-! ## The program's result -/

/-- The program's result: the quotients at (batch, row, column). -/
def result : Buf (Elt Ideal) ((c.tc : Thread nD τ).loc main_v0) := fun i => quotient m c (i 0) (i 1) (i 2)

/-- The line after the region exchanges the last two axes of its array. -/
theorem tail_eq : Pipeline.afterTail₀ cfgs (dats m) 0 (V0 m) [hostOps1] c main_v0 = result m c := by
  have e : (Pipeline.afterTail₀ cfgs (dats m) 0 (V0 m) [hostOps1] c main_v0 : Vec Ideal S4x4096x64 .f32)
      = transpose S4x4096x64 [0, 2, 1] (G m c) transposes_S4x64x4096_S4x4096x64_0_2_1 := by
    rw [← array_eq]
    refine Eq.trans ?_ (congrArg (transpose S4x4096x64 [0, 2, 1] · transposes_S4x64x4096_S4x4096x64_0_2_1)
      (Pipeline.withArrays_arr spec0 (by decide) c (V0 m c) (fun w => (dats m 0 c).arrAt w cfg0.N) 2))
    show StableHlo.after hostOps1 (Pipeline.withArrays spec0 c (V0 m c) fun w => (dats m 0 c).arrAt w cfg0.N)
      (Proc.devRef .tc main_v0) = _
    unfold hostOps1
    after_results
    rfl
  rw [e]
  funext i
  idx_vars i
  unfold result G
  pointwise

/-- The run: the result at the quotients, the arguments unchanged. -/
theorem run : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h.1 c).2 main_v0 (Pipeline.mem_restRefs_of main_v0 (by decide) (by decide)) |>.trans
      (tail_eq m c), h.2 c⟩) (θ_run_and (run_main m ρ) (unchanged m ρ))

end Cert.KernelIdeal.Array

end
-- ==== Proof.Softmax.lean ====
/-
  The equation between the two ways of averaging by a softmax, over the extended reals: the sum of `exp (w k) · x k` over
  the sum of `exp (w k)`, and the sum of `exp (w k - M) / ∑ exp (w l - M)` times `x k`, where `M` is the largest `w k`.
  They agree when `M` is finite; the `x k` may be anything.
-/
module

public import Idealize.ShloMosaic.PureOps.Ideal.Laws

@[expose] public section

noncomputable section

namespace Cert.Softmax

open Idealize.ShloMosaic

variable {ι : Type*}

/-- A finite nonnegative factor distributes over a sum of extended reals. -/
theorem sum_mul_coe (s : Finset ι) (f : ι → EReal) {r : ℝ} (hr : 0 ≤ r) :
    (∑ k ∈ s, f k) * (r : EReal) = ∑ k ∈ s, f k * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- A sum of reals, taken in the extended reals. -/
theorem sum_coe (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- The real exponential of a logit: zero at `-∞`. -/
def expReal (w : EReal) : ℝ := (Ideal.exp w).toReal

/-- Below `+∞` the exponential is the real `expReal`. -/
theorem exp_eq_expReal {w : EReal} (h : w ≠ ⊤) : Ideal.exp w = (expReal w : EReal) := by
  unfold expReal
  induction w with
  | bot => simp
  | coe r => simp
  | top => exact absurd rfl h

/-- The real exponential is nonnegative. -/
theorem expReal_nonneg (w : EReal) : 0 ≤ expReal w := by
  unfold expReal
  induction w with
  | bot => simp
  | coe r => simpa using (Real.exp_pos r).le
  | top => simp

/-- At a finite logit the real exponential is positive. -/
theorem expReal_coe_pos (r : ℝ) : 0 < expReal (r : EReal) := by
  unfold expReal
  simpa using Real.exp_pos r

/-- Subtracting a finite `r` from the logit divides its exponential by `exp r`. -/
theorem exp_sub_coe {w : EReal} (h : w ≠ ⊤) (r : ℝ) :
    Ideal.exp (w - (r : EReal)) = ((expReal w * Real.exp (-r) : ℝ) : EReal) := by
  unfold expReal
  induction w with
  | bot => simp
  | coe a =>
    rw [← EReal.coe_sub, Ideal.exp_coe, Ideal.exp_coe, sub_eq_add_neg, Real.exp_add, EReal.toReal_coe]
  | top => exact absurd rfl h

/-- Where the largest logit `M` is finite, averaging `x` by the softmax of the shifted logits is the quotient of the two
    unshifted sums. -/
theorem average_eq [Fintype ι] (w x : ι → EReal) (M : EReal) (hle : ∀ k, w k ≤ M) (hat : ∃ k, w k = M)
    (hbot : M ≠ ⊥) (htop : M ≠ ⊤) :
    ∑ k, Ideal.div (Ideal.exp (w k - M)) (∑ l, Ideal.exp (w l - M)) * x k
      = Ideal.div (∑ k, Ideal.exp (w k) * x k) (∑ k, Ideal.exp (w k)) := by
  lift M to ℝ using ⟨htop, hbot⟩
  have hw : ∀ k, w k ≠ ⊤ := fun k => ((hle k).trans_lt (EReal.coe_lt_top M)).ne
  obtain ⟨k₀, hk₀⟩ := hat
  have hZ : 0 < ∑ k, expReal (w k) :=
    Finset.sum_pos' (fun k _ => expReal_nonneg _) ⟨k₀, Finset.mem_univ _, hk₀ ▸ expReal_coe_pos M⟩
  set Z := ∑ k, expReal (w k) with hZdef
  have hs : ∑ l, Ideal.exp (w l - (M : EReal)) = ((Z * Real.exp (-M) : ℝ) : EReal) := by
    simp only [fun k => exp_sub_coe (hw k) M]
    rw [sum_coe, ← Finset.sum_mul]
  have hz : ∑ k, Ideal.exp (w k) = ((Z : ℝ) : EReal) := by
    simp only [fun k => exp_eq_expReal (hw k)]
    rw [sum_coe]
  have hE : 0 < Real.exp (-M) := Real.exp_pos _
  rw [hs, hz, Ideal.div_coe hZ.ne', sum_mul_coe _ _ (by positivity)]
  refine Finset.sum_congr rfl fun k _ => ?_
  rw [Ideal.div_coe (by positivity), exp_sub_coe (hw k), exp_eq_expReal (hw k), mul_right_comm _ (x k), ← EReal.coe_mul,
    ← EReal.coe_mul]
  congr 2
  field_simp

end Cert.Softmax

end
-- ==== Proof.Reference.lean ====
/-
  What the reference computes, and what the precondition says, over the extended reals. The reference averages the inputs
  by the softmax of the logits along the third axis, each logit less the largest of its row and column; the precondition
  asks that largest logit to be finite.
-/
module

public import proofs.«01_k».proof.Proof.Gen.ReferenceIdeal.Read
public import proofs.«01_k».proof.Pre_maxima_finite
public import Idealize.ShloMosaic.Lib.Pointwise

@[expose] public section

noncomputable section

namespace Cert.ReferenceIdeal.Average

open Cert.ReferenceIdeal Cert.ReferenceIdeal.Gen Cert.ReferenceIdeal.Read Idealize.ShloMosaic Idealize.ShloMosaic.TcCoe

/-! ## The three constants -/

/-- The temperature's word reads as one. -/
theorem one_bits : Ideal.ofBits .f32 0x3F800000#32 = 1 := by
  simp [Ideal.ofBits, Ideal.ieee, -EReal.coe_mul]
  norm_num
/-- The maximum starts from `-∞`. -/
theorem negInf_bits : Ideal.ofBits .f32 0xFF800000#32 = ⊥ := by simp [Ideal.ofBits, Ideal.ieee]
/-- The precondition compares with `+∞`. -/
theorem inf_bits : Ideal.ofBits .f32 0x7F800000#32 = ⊤ := by simp [Ideal.ofBits, Ideal.ieee]
/-- The sum starts from zero. -/
theorem zero_bits : Ideal.ofBits .f32 0x00000000#32 = 0 := by simp [Ideal.ofBits, Ideal.ieee]

variable (x : Vec Ideal S4x4096x64 .f32) (w : Vec Ideal S4x4096x64x64 .f32)

/-! ## The largest logit -/

/-- The third axis is the one reduced away. -/
theorem reduces : S4x4096x64x64.Reduces [2] S4x4096x64 := by decide

/-- The largest logit of row `s` and column `j` of batch `b`. -/
def largest (b : Fin 4) (s : Fin 4096) (j : Fin 64) : EReal :=
  (Finset.univ : Finset (Fin 64)).fold max ⊥ fun k => w (ix4 b s k j)

/-- The maximum over the third axis, from `-∞`, is the largest logit. -/
theorem reduce_apply (h : S4x4096x64x64.ReducesTo [2] S4x4096x64) (hu : 0 < S_.numel) (b : Fin 4) (s : Fin 4096) (j : Fin 64) :
    Host.reduce (FloatOps.maximumf (F := Ideal) (φ := .f32)) w (constant S_ .f32 0xFF800000#32) h hu (ix3 b s j)
      = largest w b s j := by
  rw [Host.reduce_eq_fold_single _ _ _ h reduces hu]
  have hinit : ∀ i, constant (F := Ideal) S_ .f32 0xFF800000#32 i = ⊥ := fun _ => negInf_bits
  rw [hinit]
  unfold largest
  refine congrArg (Finset.fold max ⊥ · _) (funext fun k => congrArg w (funext fun a => Fin.ext ?_))
  match a with
  | ⟨0, _⟩ => rfl
  | ⟨1, _⟩ => rfl
  | ⟨2, _⟩ => rfl
  | ⟨3, _⟩ => rfl

/-- No logit exceeds the largest. -/
theorem le_largest (b : Fin 4) (s : Fin 4096) (j k : Fin 64) : w (ix4 b s k j) ≤ largest w b s j :=
  (Finset.le_fold_max _).mpr (Or.inr ⟨k, Finset.mem_univ _, le_rfl⟩)

/-- Above `-∞` the largest logit is one of the logits. -/
theorem exists_eq_largest (b : Fin 4) (s : Fin 4096) (j : Fin 64) (h : largest w b s j ≠ ⊥) :
    ∃ k, w (ix4 b s k j) = largest w b s j := by
  rcases (Finset.le_fold_max (largest w b s j)).mp (le_refl (largest w b s j)) with h' | ⟨k, -, hk⟩
  · exact absurd (le_bot_iff.mp h') h
  · exact ⟨k, le_antisymm (le_largest w b s j k) hk⟩

/-! ## The reference at an index -/

/-- Dividing by the temperature, which is one, changes no logit. -/
theorem scaled_eq : val_main_v1 (F := Ideal) w = w := by
  funext i
  rw [val_main_v1_apply, val_main_v0_apply, val_main_cst_apply, Ideal.hostDivf_def, Ideal.ofBits_def, one_bits,
    ← EReal.coe_one, Ideal.div_coe one_ne_zero]
  simp

/-- The maximum the reference subtracts is the largest logit. -/
theorem maximum_apply (b : Fin 4) (s : Fin 4096) (j : Fin 64) :
    val_main_v4 (F := Ideal) w (ix3 b s j) = largest w b s j := by
  have h : val_main_v2 (F := Ideal) w (ix3 b s j) = largest w b s j := by
    unfold val_main_v2 val_main_cst_0
    rw [scaled_eq, reduce_apply]
  rw [val_main_v4_apply, val_main_v3_apply, val_main_cst_1_apply, Ideal.maximumf_def, Ideal.ofBits_def, negInf_bits, h]
  exact max_eq_right bot_le

/-- Spread over the positions, it is read at its row and column. -/
theorem spread_idx (b : Fin 4) (s : Fin 4096) (j k : Fin 64) :
    idx_main_v5 (idx_main_v6 (ix4 b s k j)) = ix3 b s j := funext fun a => Fin.ext (by
  match a with
  | ⟨0, _⟩ => rfl
  | ⟨1, _⟩ => rfl
  | ⟨2, _⟩ => rfl)

/-- The exponential the reference takes at position `k`: of the logit less the largest. -/
theorem shifted_apply (b : Fin 4) (s : Fin 4096) (j k : Fin 64) :
    val_main_v8 (F := Ideal) w (ix4 b s k j) = Ideal.exp (w (ix4 b s k j) - largest w b s j) := by
  rw [val_main_v8_apply, val_main_v7_apply, scaled_eq, val_main_v6_apply, val_main_v5_apply, spread_idx, maximum_apply,
    Ideal.hostUnary_exp_def, Ideal.subf_def]

/-- The sum the reference divides by, read at its row and column. -/
theorem sum_apply (b : Fin 4) (s : Fin 4096) (j k : Fin 64) :
    val_main_v11 (F := Ideal) w (ix4 b s k j) = ∑ l, Ideal.exp (w (ix4 b s l j) - largest w b s j) := by
  have hi : idx_main_v10 (idx_main_v11 (ix4 b s k j)) = ix3 b s j := spread_idx b s j k
  have hk : ∀ l, idx_main_v9 (ix3 b s j) l = ix4 b s l j := fun l => funext fun a => Fin.ext (by
    match a with
    | ⟨0, _⟩ => rfl
    | ⟨1, _⟩ => rfl
    | ⟨2, _⟩ => rfl
    | ⟨3, _⟩ => rfl)
  rw [val_main_v11_apply, val_main_v10_apply, hi, val_main_v9_apply, val_main_cst_2_apply, Ideal.ofBits_def, zero_bits,
    zero_add]
  exact Finset.sum_congr rfl fun l _ => by rw [hk, shifted_apply]

/-- The reference's result for row `s` and column `j` of batch `b`. -/
theorem result_apply (b : Fin 4) (s : Fin 4096) (j : Fin 64) :
    val_main_v13 (F := Ideal) x w (ix3 b s j)
      = ∑ k, Ideal.div (Ideal.exp (w (ix4 b s k j) - largest w b s j))
          (∑ l, Ideal.exp (w (ix4 b s l j) - largest w b s j)) * x (ix3 b s k) := by
  rw [val_main_v13_apply]
  refine Finset.sum_congr rfl fun k _ => ?_
  have hl : lidx_main_v13 (ix3 b s j) k = ix4 b s k j := funext fun a => Fin.ext (by
    match a with
    | ⟨0, _⟩ => rfl
    | ⟨1, _⟩ => rfl
    | ⟨2, _⟩ => rfl
    | ⟨3, _⟩ => rfl)
  have hr : ridx_main_v13 (ix3 b s j) k = ix3 b s k := funext fun a => Fin.ext (by
    match a with
    | ⟨0, _⟩ => rfl
    | ⟨1, _⟩ => rfl
    | ⟨2, _⟩ => rfl)
  rw [hl, hr, val_main_v12_apply, shifted_apply, sum_apply, Ideal.hostDivf_def]

/-! ## The precondition -/

/-- The side conditions of the precondition's operations hold. -/
theorem pre_facts : Cert.Pre_maxima_finite.Facts where
  reducesTo_S4x4096x64x64_S4x4096x64_d2 := reducesTo_S4x4096x64x64_S4x4096x64_d2
  h_S_ := h_S_
  bcast_S_S4x4096x64 := bcast_S_S4x4096x64

/-- An array whose absolute value compares below `+∞` at an index is finite there. -/
theorem finite_of_lt (v : FVec Ideal S4x4096x64 .f32) (hb : S_.BroadcastsInDim S4x4096x64 (![] : Fin 0 → Fin S4x4096x64.rank))
    (i : S4x4096x64.Idx)
    (h : cmpf .olt (Host.absf v) (broadcastInDim S4x4096x64 ![] hb (constant S_ .f32 0x7F800000#32)) i = 1#1) :
    v i ≠ ⊥ ∧ v i ≠ ⊤ := by
  have h' : Ideal.cmp .olt (max (v i) (-(v i))) (Ideal.ofBits .f32 0x7F800000#32) = 1#1 := h
  rw [inf_bits] at h'
  have hlt : max (v i) (-(v i)) < ⊤ := by
    by_contra hn
    simp [Ideal.cmp, hn] at h'
  constructor
  · intro e
    rw [e] at hlt
    simp at hlt
  · intro e
    rw [e] at hlt
    simp at hlt

/-- Under the precondition the largest logit of every row and column is finite. -/
theorem largest_finite [Cert.Pre_maxima_finite.Facts] (h : Cert.Pre_maxima_finite.fn (F := Ideal) x w = fun _ => 1#1)
    (b : Fin 4) (s : Fin 4096) (j : Fin 64) : largest w b s j ≠ ⊥ ∧ largest w b s j ≠ ⊤ := by
  unfold Cert.Pre_maxima_finite.fn at h
  rw [← reduce_apply w reducesTo_S4x4096x64x64_S4x4096x64_d2 h_S_ b s j]
  exact finite_of_lt _ _ (ix3 b s j) (congrFun h (ix3 b s j))

end Cert.ReferenceIdeal.Average

end
-- ==== Proof.lean ====
/-
  The proof of `Cert.Claim`: the kernel and the reference run and leave their arguments and every counter as they were; the
  ideal kernel is the kernel's own text; and, where every column's largest logit is finite, the two results are equal.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Array
public import proofs.«01_k».proof.Proof.Softmax
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.ReferenceIdeal.Average

/-- The reference runs, leaves its arguments as they were, and has no counters. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
      ∧ r.2.sem = fun _ => 0 :=
  (θ_run _ _ _).mono (fun r h => ⟨fun c => (h c).2, sem_eq_zero_of_no_sems (by decide) r.2⟩)
    (Cert.ReferenceIdeal.Value.run m ρ)

/-- Where every column's largest logit is finite, the reference's value is the kernel's array of quotients. -/
theorem value_eq (m : (ℓ : Loc Cert.KernelIdeal.nD Cert.KernelIdeal.τ Cert.KernelIdeal.sig) → Buf (Elt Ideal) ℓ)
    (c : Dev Cert.KernelIdeal.nD)
    [Cert.Pre_maxima_finite.Facts]
    (h : Cert.Pre_maxima_finite.fn (F := Ideal) (Cert.KernelIdeal.Array.X m c) (Cert.KernelIdeal.Array.W m c) = fun _ => 1#1) :
    Cert.ReferenceIdeal.Read.val_main_v13 (F := Ideal) (Cert.KernelIdeal.Array.X m c) (Cert.KernelIdeal.Array.W m c)
      = Cert.KernelIdeal.Array.result m c := by
  funext i
  idx_vars i
  have hM := largest_finite (Cert.KernelIdeal.Array.X m c) (Cert.KernelIdeal.Array.W m c) h i0 i1 i2
  refine (result_apply _ _ i0 i1 i2).trans ?_
  exact Cert.Softmax.average_eq (fun k => Cert.KernelIdeal.Array.W m c (ix4 i0 i1 k i2))
    (fun k => Cert.KernelIdeal.Array.X m c (ix3 i0 i1 k)) _ (le_largest _ i0 i1 i2) (exists_eq_largest _ i0 i1 i2 hM.1) hM.1 hM.2

/-- Every claim holds. -/
theorem claim : Cert.Claim := ⟨Cert.Kernel.Gen.facts, Cert.KernelIdeal.Gen.facts, Cert.ReferenceIdeal.Gen.facts, pre_facts,
  fun m ρ _ => Cert.Kernel.Gen.frame m ρ,
  fun m ρ _ => Cert.KernelIdeal.Gen.frame m ρ,
  fun m ρ _ => Cert.KernelIdeal.Gen.frame m ρ,
  fun m ρ _ => reference_frame m ρ,
  fun m ρ _ => reference_frame m ρ,
  trivial,
  fun m ρ m' ρ' hpre hargs => ⟨Cert.KernelIdeal.Array.result m, Cert.KernelIdeal.Array.run m ρ,
    (θ_run _ _ _).mono (fun _ h c => ⟨(h c).1.trans (by
      rw [(hargs c).1, (hargs c).2, Cert.ReferenceIdeal.Read.val_main_v13_eq]
      exact @value_eq m c pre_facts (hpre c)), (h c).2⟩) (Cert.ReferenceIdeal.Value.run m' ρ')⟩⟩

end Cert.Proof

end
